-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_area [hPre_in_area : Cert.Pre_in_area.Facts] (m : (ℓ : Loc Cert.KernelIdeal.nD Cert.KernelIdeal.τ Cert.KernelIdeal.sig) → Buf (Elt Ideal) ℓ) : Prop :=
  ∀ c : Dev Cert.KernelIdeal.nD,
    (Cert.Pre_in_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_area [hPre_in_area : Cert.Pre_in_area.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_area [hKernelIdeal : Cert.KernelIdeal.Facts] [hPre_in_area : Cert.Pre_in_area.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_area m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_area [hReferenceIdeal : Cert.ReferenceIdeal.Facts] [hPre_in_area : Cert.Pre_in_area.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_area m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_area [hKernelIdeal : Cert.KernelIdeal.Facts] [hReferenceIdeal : Cert.ReferenceIdeal.Facts] [hPre_in_area : Cert.Pre_in_area.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_area m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_area : Cert.Pre_in_area.Facts),
    quiescent_Kernel (hKernel := hKernel)
    ∧ quiescent_KernelIdeal (hKernelIdeal := hKernelIdeal)
    ∧ quiescent_KernelIdeal_pre_in_area (hKernelIdeal := hKernelIdeal) (hPre_in_area := hPre_in_area)
    ∧ quiescent_ReferenceIdeal (hReferenceIdeal := hReferenceIdeal)
    ∧ quiescent_ReferenceIdeal_pre_in_area (hReferenceIdeal := hReferenceIdeal) (hPre_in_area := hPre_in_area)
    ∧ preserves_Kernel_KernelIdeal
    ∧ algebraic_KernelIdeal_ReferenceIdeal_pre_in_area (hKernelIdeal := hKernelIdeal) (hReferenceIdeal := hReferenceIdeal) (hPre_in_area := hPre_in_area)
-- ==== Pre_in_area.lean ====
abbrev S64x4096x128 : Shape := ⟨3, ![64, 4096, 128]⟩
abbrev S64x128 : Shape := ⟨2, ![64, 128]⟩
abbrev S64 : Shape := ⟨1, ![64]⟩
abbrev S_ : Shape := ⟨0, ![]⟩
abbrev S128x16 : Shape := ⟨2, ![128, 16]⟩
abbrev S16 : Shape := ⟨1, ![16]⟩
abbrev S1x128 : Shape := ⟨2, ![1, 128]⟩
abbrev S128 : Shape := ⟨1, ![128]⟩

class Facts : Prop where
  slices_S64x128_S1x128_0_0 : S64x128.Slices ![0, 0] S1x128
  shapeCasts_S1x128_S128 : S1x128.ShapeCasts S128
  bcast_S_S128 : S_.BroadcastsInDim S128 (![] : Fin 0 → Fin S128.rank)

variable [Facts]

def fn {F : FTy → Type} [FloatOps F] (main_arg0 : FVec F S64x4096x128 .f32) (main_arg1 : IVec S64x128 32) (main_arg2 : IVec S64 1) (main_arg3 : IVec S_ 32) (main_arg4 : FVec F S128x16 .f32) (main_arg5 : FVec F S16 .f32) : IVec S128 1 :=
  let main_v0 : IVec S1x128 32 := (extractStridedSlice S1x128 ![0, 0] · slices_S64x128_S1x128_0_0) main_arg1
  let main_v1 : IVec S128 32 := shapeCast S128 main_v0 shapeCasts_S1x128_S128
  let main_c : IVec S_ 32 := constantI S_ 32 0#32
  let main_v2 : IVec S128 32 := broadcastInDim S128 ![] bcast_S_S128 main_c
  let main_v3 : IVec S128 1 := cmpi .eq main_v1 main_v2
  main_v3
-- ==== Kernel.lean ====
abbrev S64x4096x128 : Shape := ⟨3, ![64, 4096, 128]⟩
abbrev S64x128 : Shape := ⟨2, ![64, 128]⟩
abbrev S64 : Shape := ⟨1, ![64]⟩
abbrev S_ : Shape := ⟨0, ![]⟩
abbrev S128x16 : Shape := ⟨2, ![128, 16]⟩
abbrev S16 : Shape := ⟨1, ![16]⟩
abbrev S262144x128 : Shape := ⟨2, ![262144, 128]⟩
abbrev S16x1 : Shape := ⟨2, ![16, 1]⟩
abbrev S16x262144 : Shape := ⟨2, ![16, 262144]⟩
abbrev S16384x128 : Shape := ⟨2, ![16384, 128]⟩
abbrev S16x32768 : Shape := ⟨2, ![16, 32768]⟩
abbrev S16384x16 : Shape := ⟨2, ![16384, 16]⟩
abbrev S16x16384 : Shape := ⟨2, ![16, 16384]⟩
abbrev S262144x16 : Shape := ⟨2, ![262144, 16]⟩
abbrev S64x4096x16 : Shape := ⟨3, ![64, 4096, 16]⟩

abbrev nBuf : Space → Nat
  | .hbm => 12
  | .vmem => 8
  | .smem => 0
  | _ => 0

abbrev bufTy : (tb : Table) → Fin (tcTables nBuf tb) → BufTy
  | .hbm, ⟨0, _⟩ => ⟨S64x4096x128, .f32⟩
  | .hbm, ⟨1, _⟩ => ⟨S64x128, .i32⟩
  | .hbm, ⟨2, _⟩ => ⟨S64, .i1⟩
  | .hbm, ⟨3, _⟩ => ⟨S_, .i32⟩
  | .hbm, ⟨4, _⟩ => ⟨S128x16, .f32⟩
  | .hbm, ⟨5, _⟩ => ⟨S16, .f32⟩
  | .hbm, ⟨6, _⟩ => ⟨S262144x128, .f32⟩
  | .hbm, ⟨7, _⟩ => ⟨S16x1, .f32⟩
  | .hbm, ⟨8, _⟩ => ⟨S16x262144, .bf16⟩
  | .hbm, ⟨9, _⟩ => ⟨S262144x16, .bf16⟩
  | .hbm, ⟨10, _⟩ => ⟨S262144x16, .f32⟩
  | .hbm, ⟨11, _⟩ => ⟨S64x4096x16, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S128x16, .f32⟩
  | .local _ .vmem, ⟨5, _⟩ => ⟨S16x1, .f32⟩
  | .local _ .vmem, ⟨6, _⟩ => ⟨S16x32768, .bf16⟩
  | .local _ .vmem, ⟨7, _⟩ => ⟨S16x32768, .bf16⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x32768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x4096x128 : Shape := ⟨3, ![64, 4096, 128]⟩
abbrev S64x128 : Shape := ⟨2, ![64, 128]⟩
abbrev S64 : Shape := ⟨1, ![64]⟩
abbrev S_ : Shape := ⟨0, ![]⟩
abbrev S128x16 : Shape := ⟨2, ![128, 16]⟩
abbrev S16 : Shape := ⟨1, ![16]⟩
abbrev S0 : Shape := ⟨1, ![0]⟩
abbrev S64x4096x16 : Shape := ⟨3, ![64, 4096, 16]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S1x1x16 : Shape := ⟨3, ![1, 1, 16]⟩

abbrev nBuf : Space → Nat
  | .hbm => 113
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64x128, .i32⟩
  | .hbm, ⟨2, _⟩ => ⟨S64, .i1⟩
  | .hbm, ⟨3, _⟩ => ⟨S_, .i32⟩
  | .hbm, ⟨4, _⟩ => ⟨S128x16, .f32⟩
  | .hbm, ⟨5, _⟩ => ⟨S16, .f32⟩
  | .hbm, ⟨6, _⟩ => ⟨S0, .i32⟩
  | .hbm, ⟨7, _⟩ => ⟨S_, .f32⟩
  | .hbm, ⟨8, _⟩ => ⟨S64x4096x16, .f32⟩
  | .hbm, ⟨9, _⟩ => ⟨S1x128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S128, .i32⟩
  | .hbm, ⟨15, _⟩ => ⟨S_, .i32⟩
  | .hbm, ⟨16, _⟩ => ⟨S_, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S_, .i32⟩
  | .hbm, ⟨32, _⟩ => ⟨S_, .i32⟩
  | .hbm, ⟨33, _⟩ => ⟨S128, .i32⟩
  | .hbm, ⟨34, _⟩ => ⟨S_, .i32⟩
  | .hbm, ⟨35, _⟩ => ⟨S_, .i32⟩
  | .hbm, ⟨36, _⟩ => ⟨S128, .i32⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S128, .i1⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .i32⟩
  | .hbm, ⟨64, _⟩ => ⟨S128, .i32⟩
  | .hbm, ⟨65, _⟩ => ⟨S128, .i1⟩
  | .hbm, ⟨66, _⟩ => ⟨S_, .i32⟩
  | .hbm, ⟨67, _⟩ => ⟨S_, .i1⟩
  | .hbm, ⟨68, _⟩ => ⟨S128, .i1⟩
  | .hbm, ⟨69, _⟩ => ⟨S128, .i1⟩
  | .hbm, ⟨70, _⟩ => ⟨S128, .i1⟩
  | .hbm, ⟨71, _⟩ => ⟨S128, .i32⟩
  | .hbm, ⟨72, _⟩ => ⟨S128, .i32⟩
  | .hbm, ⟨73, _⟩ => ⟨S128, .i32⟩
  | .hbm, ⟨74, _⟩ => ⟨S128, .i32⟩
  | .hbm, ⟨75, _⟩ => ⟨S_, .i32⟩
  | .hbm, ⟨76, _⟩ => ⟨S_, .i32⟩
  | .hbm, ⟨77, _⟩ => ⟨S1, .i32⟩
  | .hbm, ⟨78, _⟩ => ⟨S128, .i32⟩
  | .hbm, ⟨79, _⟩ => ⟨S128, .i32⟩
  | .hbm, ⟨80, _⟩ => ⟨S128, .i1⟩
  | .hbm, ⟨81, _⟩ => ⟨S_, .i32⟩
  | .hbm, ⟨82, _⟩ => ⟨S_, .i32⟩
  | .hbm, ⟨83, _⟩ => ⟨S128, .i32⟩
  | .hbm, ⟨84, _⟩ => ⟨S128, .i32⟩
  | .hbm, ⟨85, _⟩ => ⟨S_, .i32⟩
  | .hbm, ⟨86, _⟩ => ⟨S128, .i32⟩
  | .hbm, ⟨87, _⟩ => ⟨S128, .i1⟩
  | .hbm, ⟨88, _⟩ => ⟨S_, .i32⟩
  | .hbm, ⟨89, _⟩ => ⟨S128, .i32⟩
  | .hbm, ⟨90, _⟩ => ⟨S128, .i32⟩
  | .hbm, ⟨91, _⟩ => ⟨S128, .i32⟩
  | .hbm, ⟨92, _⟩ => ⟨S128x1, .i32⟩
  | .hbm, ⟨93, _⟩ => ⟨S1, .i32⟩
  | .hbm, ⟨94, _⟩ => ⟨S_, .i32⟩
  | .hbm, ⟨95, _⟩ => ⟨S128x1, .i32⟩
  | .hbm, ⟨96, _⟩ => ⟨S128x1, .i1⟩
  | .hbm, ⟨97, _⟩ => ⟨S1x1, .i32⟩
  | .hbm, ⟨98, _⟩ => ⟨S128x1, .i32⟩
  | .hbm, ⟨99, _⟩ => ⟨S128x1, .i1⟩
  | .hbm, ⟨100, _⟩ => ⟨S128x1, .i1⟩
  | .hbm, ⟨101, _⟩ => ⟨S_, .i1⟩
  | .hbm, ⟨102, _⟩ => ⟨S128, .i1⟩
  | .hbm, ⟨103, _⟩ => ⟨S64x4096x128, .f32⟩
  | .hbm, ⟨104, _⟩ => ⟨S64x4096x128, .i1⟩
  | .hbm, ⟨105, _⟩ => ⟨S_, .f32⟩
  | .hbm, ⟨106, _⟩ => ⟨S64x4096x128, .f32⟩
  | .hbm, ⟨107, _⟩ => ⟨S64x4096x128, .f32⟩
  | .hbm, ⟨108, _⟩ => ⟨S64x4096x16, .f32⟩
  | .hbm, ⟨109, _⟩ => ⟨S1x1x16, .f32⟩
  | .hbm, ⟨110, _⟩ => ⟨S64x4096x16, .f32⟩
  | .hbm, ⟨111, _⟩ => ⟨S64x4096x16, .f32⟩
  | .hbm, ⟨112, _⟩ => ⟨S64x4096x16, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_call0_c : Ref sig .tc := ⟨.hbm, 15, rfl⟩
abbrev main_call0_call0_v0 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_c_2 : Ref sig .tc := ⟨.hbm, 20, rfl⟩
abbrev main_v7 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_v13 : Ref sig .tc := ⟨.hbm, 29, rfl⟩
abbrev main_v14 : Ref sig .tc := ⟨.hbm, 30, rfl⟩
abbrev main_call1_call0_c : Ref sig .tc := ⟨.hbm, 31, rfl⟩
abbrev main_call1_call0_v0 : Ref sig .tc := ⟨.hbm, 32, rfl⟩
abbrev main_v15 : Ref sig .tc := ⟨.hbm, 33, rfl⟩
abbrev main_c_5 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_v7 : Ref sig .tc := ⟨.hbm, 42, rfl⟩
abbrev main_call2_v8 : Ref sig .tc := ⟨.hbm, 43, rfl⟩
abbrev main_call2_c : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_0 : Ref sig .tc := ⟨.hbm, 48, rfl⟩
abbrev main_call2_v12 : Ref sig .tc := ⟨.hbm, 49, rfl⟩
abbrev main_call2_v13 : Ref sig .tc := ⟨.hbm, 50, rfl⟩
abbrev main_v16 : Ref sig .tc := ⟨.hbm, 51, rfl⟩
abbrev main_c_6 : Ref sig .tc := ⟨.hbm, 52, rfl⟩
abbrev main_call3_v0 : Ref sig .tc := ⟨.hbm, 53, rfl⟩
abbrev main_call3_c : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_v5 : Ref sig .tc := ⟨.hbm, 61, rfl⟩
abbrev main_call3_v6 : Ref sig .tc := ⟨.hbm, 62, rfl⟩
abbrev main_call3_c_2 : Ref sig .tc := ⟨.hbm, 63, rfl⟩
abbrev main_call3_v7 : Ref sig .tc := ⟨.hbm, 64, rfl⟩
abbrev main_call3_v8 : Ref sig .tc := ⟨.hbm, 65, rfl⟩
abbrev main_call3_c_3 : Ref sig .tc := ⟨.hbm, 66, rfl⟩
abbrev main_call3_v9 : Ref sig .tc := ⟨.hbm, 67, rfl⟩
abbrev main_call3_v10 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_v17 : Ref sig .tc := ⟨.hbm, 73, rfl⟩
abbrev main_v18 : Ref sig .tc := ⟨.hbm, 74, rfl⟩
abbrev main_c_7 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_c_8 : Ref sig .tc := ⟨.hbm, 81, rfl⟩
abbrev main_call4_v0 : Ref sig .tc := ⟨.hbm, 82, rfl⟩
abbrev main_call4_v1 : Ref sig .tc := ⟨.hbm, 83, rfl⟩
abbrev main_v24 : Ref sig .tc := ⟨.hbm, 84, rfl⟩
abbrev main_call5_c : Ref sig .tc := ⟨.hbm, 85, rfl⟩
abbrev main_call5_v0 : Ref sig .tc := ⟨.hbm, 86, rfl⟩
abbrev main_call5_v1 : Ref sig .tc := ⟨.hbm, 87, rfl⟩
abbrev main_call5_c_0 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_call5_v5 : Ref sig .tc := ⟨.hbm, 92, rfl⟩
abbrev main_call5_c_1 : Ref sig .tc := ⟨.hbm, 93, rfl⟩
abbrev main_call5_c_2 : Ref sig .tc := ⟨.hbm, 94, rfl⟩
abbrev main_call5_v6 : Ref sig .tc := ⟨.hbm, 95, rfl⟩
abbrev main_call5_v7 : Ref sig .tc := ⟨.hbm, 96, rfl⟩
abbrev main_call5_v8 : Ref sig .tc := ⟨.hbm, 97, rfl⟩
abbrev main_call5_v9 : Ref sig .tc := ⟨.hbm, 98, rfl⟩
abbrev main_call5_v10 : Ref sig .tc := ⟨.hbm, 99, rfl⟩
abbrev main_call5_v11 : Ref sig .tc := ⟨.hbm, 100, rfl⟩
abbrev main_call5_c_3 : Ref sig .tc := ⟨.hbm, 101, rfl⟩
abbrev main_call5_v12 : Ref sig .tc := ⟨.hbm, 102, rfl⟩
abbrev main_call5_v13 : Ref sig .tc := ⟨.hbm, 103, rfl⟩
abbrev main_call5_v14 : Ref sig .tc := ⟨.hbm, 104, rfl⟩
abbrev main_call5_cst : Ref sig .tc := ⟨.hbm, 105, rfl⟩
abbrev main_call5_v15 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩

abbrev nD : Nat := 1
abbrev τ : Topo := Topo.v7x

variable {F : FTy → Type} [FloatOps F]
-- ==== Proof.Affine.lean ====
/- The affine map both programs compute: each of the 16 channels is a weighted sum over the 128 neurons, plus a bias. -/
module

public import Idealize.ShloMosaic.Lib.Pointwise.Tactic
public import Idealize.ShloMosaic.Lib.Pointwise.Contract

@[expose] public section

noncomputable section

namespace Cert.Proof

open Idealize.ShloMosaic

/-- One entry: the sum over the neurons of row `n` of `x` times column `c` of `W`, plus `b` at `c`. -/
def affine (x : FVec Ideal ⟨3, ![64, 4096, 128]⟩ .f32) (W : FVec Ideal ⟨2, ![128, 16]⟩ .f32) (b : FVec Ideal ⟨1, ![16]⟩ .f32) :
    FVec Ideal ⟨3, ![64, 4096, 16]⟩ .f32 :=
  fun j => (∑ k : Fin 128, x (ix3 (j 0) (j 1) k) * W (ix2 k (j 2))) + b (ix1 (j 2))

end Cert.Proof

end
-- ==== Proof.KernelValue.lean ====
/- The kernel's result: the affine map of its arguments, computed on the transposed array and turned back. -/
module

public import proofs.«01_k».proof.Proof.Gen.KernelIdeal.Frame
public import proofs.«01_k».proof.Proof.Affine
public import Idealize.ShloMosaic.Lib.Pointwise.Reshape
public import Idealize.ShloMosaic.Lib.Pipeline.Value
public import Idealize.ShloMosaic.Lib.Pipeline.ValueKit.Geometry

@[expose] public section

set_option maxRecDepth 16384

noncomputable section

namespace Cert.Proof.KernelValue

open Cert.KernelIdeal Cert.KernelIdeal.Gen Idealize.ShloMosaic Idealize.ShloMosaic.TcCoe Idealize.SL.Sem
open Idealize.ShloMosaic.Pipeline (Dat)

/-- The transposed product with its bias: channel by row. -/
def outT (X : FVec Ideal S262144x128 .f32) (W : FVec Ideal S128x16 .f32) (B : FVec Ideal S16x1 .f32) : FVec Ideal S16x262144 .bf16 :=
  fun i => (∑ k : Fin 128, X (ix2 (i 1) k) * W (ix2 k (i 0))) + B (ix2 (i 0) 0)

/-- The first store's value at an entry. -/
theorem pay2_apply (W : Vec Ideal S128x16 .f32) (B : Vec Ideal S16x1 .f32) (x : Vec Ideal S16384x128 .f32) (q : Fin 16) (r : Fin 16384) :
    k0_pay2 W B x (ix2 q r) = (∑ k : Fin 128, x (ix2 r k) * W (ix2 k q)) + B (ix2 q 0) := by
  unfold k0_pay2 k0_pay1
  rw [shapeCast_self, shapeCast_self]
  simp only [pointwise]
  rw [zero_add]
  rfl

/-- The second store's value at an entry: the same function of the other block. -/
theorem pay3_eq : k0_pay3 (F := Ideal) = k0_pay2 := rfl

variable (m : (ℓ : Loc nD τ sig) → Buf (Elt Ideal) ℓ) (ρ : Dev nD → PrngReg)

/-- Where each window's block lies at point `t`. -/
theorem index_eq : ∀ t : Fin grid0.N,
    (win0_0.index t 0 = 2 * t.val ∧ win0_0.index t 1 = 0) ∧ (win0_1.index t 0 = 2 * t.val + 1 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = t.val) := by
  decide +kernel

theorem iblk0 (c : Dev nD) (t : Fin cfg0.N) (r : Fin 16384) (k : Fin 128) (n : Fin 262144) (hn : n.val = 2 * t.val * 16384 + r.val) :
    iblk m c 0 t (ix2 r k : S16384x128.Idx) = V m c main_v0 (ix2 n k : S262144x128.Idx) := by
  show V m c main_v0 ((win0_0.rect t).emb (ix2 r k : S16384x128.Idx)) = _
  congr 1
  funext a
  refine Fin.ext ?_
  refine (Pipeline.Window.rect_emb_val win0_0 t _ a).trans ?_
  match a with
  | ⟨0, _⟩ => exact (congrArg (· * 16384 + r.val) (index_eq t).1.1).trans hn.symm
  | ⟨1, _⟩ => exact (congrArg (· * 128 + k.val) (index_eq t).1.2).trans (by rw [Nat.zero_mul, Nat.zero_add]; rfl)

theorem iblk1 (c : Dev nD) (t : Fin cfg0.N) (r : Fin 16384) (k : Fin 128) (n : Fin 262144) (hn : n.val = (2 * t.val + 1) * 16384 + r.val) :
    iblk m c 1 t (ix2 r k : S16384x128.Idx) = V m c main_v0 (ix2 n k : S262144x128.Idx) := by
  show V m c main_v0 ((win0_1.rect t).emb (ix2 r k : S16384x128.Idx)) = _
  congr 1
  funext a
  refine Fin.ext ?_
  refine (Pipeline.Window.rect_emb_val win0_1 t _ a).trans ?_
  match a with
  | ⟨0, _⟩ => exact (congrArg (· * 16384 + r.val) (index_eq t).2.1.1).trans hn.symm
  | ⟨1, _⟩ => exact (congrArg (· * 128 + k.val) (index_eq t).2.1.2).trans (by rw [Nat.zero_mul, Nat.zero_add]; rfl)

theorem iblk2 (c : Dev nD) (t : Fin cfg0.N) : iblk m c 2 t = V m c main_arg4 := by
  funext y
  show V m c main_arg4 ((win0_2.rect t).emb y) = _
  congr 1
  funext a
  refine Fin.ext ?_
  match a with
  | ⟨0, _⟩ => exact Pipeline.Window.rect_emb_val_of_index_zero _ _ _ (index_eq t).2.2.1.1 _
  | ⟨1, _⟩ => exact Pipeline.Window.rect_emb_val_of_index_zero _ _ _ (index_eq t).2.2.1.2 _

theorem iblk3 (c : Dev nD) (t : Fin cfg0.N) : iblk m c 3 t = V m c main_v1 := by
  funext y
  show V m c main_v1 ((win0_3.rect t).emb y) = _
  congr 1
  funext a
  refine Fin.ext ?_
  match a with
  | ⟨0, _⟩ => exact Pipeline.Window.rect_emb_val_of_index_zero _ _ _ (index_eq t).2.2.2.1.1 _
  | ⟨1, _⟩ => exact Pipeline.Window.rect_emb_val_of_index_zero _ _ _ (index_eq t).2.2.2.1.2 _

/-- The transposed result of device `c`. -/
abbrev target (c : Dev nD) : FVec Ideal S16x262144 .bf16 := outT (V m c main_v0) (V m c main_arg4) (V m c main_v1)

theorem hz : (![0, 0] : Fin 2 → Nat) = fun _ => 0 := funext fun a => by fin_cases a <;> rfl

/-- A stored tile is a tile of the target: `x` a block of rows starting at `o`, the store's columns landing at the same rows. -/
theorem tile_eq (c : Dev nD) (x : Vec Ideal S16384x128 .f32) (o : Nat)
    (hx : ∀ (r : Fin 16384) (k : Fin 128) (n : Fin 262144), n.val = o + r.val → x (ix2 r k) = V m c main_v0 (ix2 n k : S262144x128.Idx))
    (y : S16x16384.Idx) (i : S16x262144.Idx) (h0 : (i 0).val = (y 0).val) (h1 : (i 1).val = o + (y 1).val) :
    k0_pay2 (V m c main_arg4) (V m c main_v1) x y = target m c i := by
  obtain ⟨q, r, rfl⟩ : ∃ (q : Fin 16) (r : Fin 16384), y = ix2 q r := ⟨y 0, y 1, eq_ix2 y⟩
  obtain ⟨q', n, rfl⟩ : ∃ (q' : Fin 16) (n : Fin 262144), i = ix2 q' n := ⟨i 0, i 1, eq_ix2 i⟩
  obtain rfl : q' = q := Fin.ext h0
  rw [pay2_apply]
  unfold target outT
  simp only [hx r _ n h1]
  rfl

/-- What point `t` writes back is its block of the target. -/
theorem flushed_eq (c : Dev nD) (t : Fin cfg0.N) :
    (dats m 0 c).flushed 4 t = (win0_4.blk t).view.read (Elt Ideal) (target m c) := by
  show (cfg0.win 4).cut (grid0.coords t) ((dats m 0 c).after 4 t) = _
  rw [after0_4, iblk2, iblk3]
  unfold out0_4
  rw [View.ld_unit_zero hz, View.ld_unit_zero hz, View.ld_unit_zero hz, View.ld_unit_zero hz, pay3_eq]
  funext y
  show View.canon (Val := Elt Ideal) (s := S16x32768) (e := .bf16) _ y = target m c ((win0_4.rect t).emb y)
  refine View.canon_apply_of_pieces (Val := Elt Ideal) (e := .bf16) (fun z : S16x32768.Idx => target m c ((win0_4.rect t).emb z)) _ ?_ y (cover0_4 _ _ y)
  intro p hp x
  simp only [List.mem_cons, List.mem_nil_iff, or_false] at hp
  have e4 := (index_eq t).2.2.2.2
  have e0 : ∀ z : S16x32768.Idx, ((win0_4.rect t).emb z 0 : Nat) = (z 0).val := fun z =>
    Pipeline.Window.rect_emb_val_of_index_zero win0_4 t 0 e4.1 z
  have e1 : ∀ z : S16x32768.Idx, ((win0_4.rect t).emb z 1 : Nat) = t.val * 32768 + (z 1).val := fun z =>
    (Pipeline.Window.rect_emb_val win0_4 t z 1).trans (congrArg (· * 32768 + (z 1).val) e4.2)
  rcases hp with rfl | rfl
  · refine tile_eq m c _ ((2 * t.val + 1) * 16384) (fun r k n hn => iblk1 m c t r k n hn) x _ ((e0 _).trans ?_) ((e1 _).trans ?_)
    · exact (ValueKit.rect_emb_unit_val (s := S16x32768) ![0, 16384] S16x16384.size inb_S16x32768_S16x16384_0_16384 x 0).trans (Nat.zero_add (x 0).val)
    · rw [show ((r0_4.emb x) 1).val = 16384 + (x 1).val from
        ValueKit.rect_emb_unit_val (s := S16x32768) ![0, 16384] S16x16384.size inb_S16x32768_S16x16384_0_16384 x 1]
      omega
  · refine tile_eq m c _ (2 * t.val * 16384) (fun r k n hn => iblk0 m c t r k n hn) x _ ((e0 _).trans ?_) ((e1 _).trans ?_)
    · exact (ValueKit.rect_emb_unit_val (s := S16x32768) ![0, 0] S16x16384.size inb_S16x32768_S16x16384_0_0 x 0).trans (Nat.zero_add (x 0).val)
    · rw [show ((r0_3.emb x) 1).val = 0 + (x 1).val from
        ValueKit.rect_emb_unit_val (s := S16x32768) ![0, 0] S16x16384.size inb_S16x32768_S16x16384_0_0 x 1]
      omega

theorem mem_blk (t : Fin cfg0.N) (i : S16x262144.Idx) :
    i ∈ ((cfg0.win 4).blk t).view.set ↔ t.val * 32768 ≤ (i 1 : Nat) ∧ (i 1 : Nat) < t.val * 32768 + 32768 := by
  show i ∈ ((View.whole main_v2).slice (win0_4.rect t)).set ↔ _
  rw [View.set_slice_whole, Rect.mem_set_unit]
  have h0 : (i 0 : Nat) < 16 := (i 0).isLt
  have e : ∀ t : Fin grid0.N, win0_4.index t 0 * win0_4.size 0 = 0 ∧ win0_4.xsize (grid0.coords t) 0 = 16
      ∧ win0_4.index t 1 * win0_4.size 1 = t.val * 32768 ∧ win0_4.xsize (grid0.coords t) 1 = 32768 := by
    decide +kernel
  replace e := e t
  refine ⟨fun h => ?_, fun h a => ?_⟩
  · have : win0_4.index t 1 * win0_4.size 1 ≤ (i 1 : Nat) ∧ (i 1 : Nat) < win0_4.index t 1 * win0_4.size 1 + win0_4.xsize (grid0.coords t) 1 := h 1
    rw [e.2.2.1, e.2.2.2] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; omega
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; exact h

/-- The points' blocks cover the output array. -/
theorem cover (i : S16x262144.Idx) :
    ∃ t : Fin cfg0.N, (cfg0.win 4).flush t = true ∧ i ∈ ((cfg0.win 4).blk t).view.set := by
  have h1 : (i 1 : Nat) < 262144 := (i 1).isLt
  have hN : cfg0.N = 8 := N_0
  have ht : (i 1 : Nat) / 32768 < cfg0.N := by omega
  refine ⟨⟨(i 1 : Nat) / 32768, ht⟩, flush0_4 _, ?_⟩
  rw [mem_blk]
  dsimp only
  omega

/-- So the region's output array ends holding the target. -/
theorem final_o (c : Dev nD) : (dats m 0 c).arrAt 4 cfg0.N = target m c :=
  (dats m 0 c).arrAt_eq_of_cover 4 (target m c) (fun t _ => flushed_eq m c t) cover

/-- The region finds the first argument's rows flattened. -/
theorem V_main_v0 (c : Dev nD) : V m c main_v0 = shapeCast S262144x128 (m ((c : Thread nD τ).loc main_arg0)) shapeCasts_S64x4096x128_S262144x128 := by
  show StableHlo.after (List.flatten [hostOps0]) (fun b => m (c, b)) (Proc.devRef .tc main_v0) = _
  simp only [List.flatten_cons, List.flatten_nil, List.append_nil, hostOps0]
  after_results_simp <;> rfl

/-- The region finds the bias as a column. -/
theorem V_main_v1 (c : Dev nD) : V m c main_v1 = shapeCast S16x1 (m ((c : Thread nD τ).loc main_arg5)) shapeCasts_S16_S16x1 := by
  show StableHlo.after (List.flatten [hostOps0]) (fun b => m (c, b)) (Proc.devRef .tc main_v1) = _
  simp only [List.flatten_cons, List.flatten_nil, List.append_nil, hostOps0]
  after_results_simp <;> rfl

/-- What the region leaves, turned back: the affine map. -/
theorem turned_eq (x : FVec Ideal S64x4096x128 .f32) (W : FVec Ideal S128x16 .f32) (b : FVec Ideal S16 .f32) :
    shapeCast S64x4096x16 (extf .f32 (transpose S262144x16 [1, 0]
      (outT (shapeCast S262144x128 x shapeCasts_S64x4096x128_S262144x128) W (shapeCast S16x1 b shapeCasts_S16_S16x1))
      transposes_S16x262144_S262144x16_1_0) bitsLt_bf16_f32) shapeCasts_S262144x16_S64x4096x16 = affine x W b := by
  funext j
  have h0 : (j 0 : Nat) < 64 := (j 0).isLt
  have h1 : (j 1 : Nat) < 4096 := (j 1).isLt
  have h2 : (j 2 : Nat) < 16 := (j 2).isLt
  have hn : (j 0 : Nat) * 4096 + (j 1 : Nat) < 262144 := by omega
  refine (shapeCast_apply _ _ j (ix2 ⟨(j 0 : Nat) * 4096 + (j 1 : Nat), hn⟩ (j 2) : S262144x16.Idx) ?_).trans ?_
  · refine (rowMajor_val2 _ 16 rfl).trans (Eq.trans ?_ (rowMajor_val3 j 65536 16 rfl rfl).symm)
    show ((j 0 : Nat) * 4096 + (j 1 : Nat)) * 16 + (j 2 : Nat) = _
    omega
  · show (∑ k : Fin 128, shapeCast S262144x128 x shapeCasts_S64x4096x128_S262144x128 (ix2 ⟨(j 0 : Nat) * 4096 + (j 1 : Nat), hn⟩ k) * W (ix2 k (j 2)))
      + shapeCast S16x1 b shapeCasts_S16_S16x1 (ix2 (j 2) 0) = (∑ k : Fin 128, x (ix3 (j 0) (j 1) k) * W (ix2 k (j 2))) + b (ix1 (j 2))
    congr 1
    · refine Finset.sum_congr rfl fun k _ => congrArg (· * W (ix2 k (j 2))) (shapeCast_apply _ _ _ _ ?_)
      refine (rowMajor_val3 _ 524288 128 rfl rfl).trans (Eq.trans ?_ (rowMajor_val2 _ 128 rfl).symm)
      show (j 0 : Nat) * 524288 + (j 1 : Nat) * 128 + k.val = ((j 0 : Nat) * 4096 + (j 1 : Nat)) * 128 + k.val
      omega
    · refine shapeCast_apply _ _ _ _ ?_
      refine (rowMajor_val1 _).trans (Eq.trans ?_ (rowMajor_val2 _ 1 rfl).symm)
      show (j 2 : Nat) = (j 2 : Nat) * 1 + 0
      omega

/-- The result array at the end: the tail read off the region's exit. -/
theorem W_main_v5 (c : Dev nD) : Pipeline.afterTail₀ cfgs (dats m) 0 (V0 m) [hostOps1] c main_v5
    = affine (m ((c : Thread nD τ).loc main_arg0)) (m ((c : Thread nD τ).loc main_arg4)) (m ((c : Thread nD τ).loc main_arg5)) := by
  have hT := ((dats m 0 c).withArrays_arrAt sharedIn0 (V0 m c) (A_eq m c) 4).trans (final_o m c)
  unfold target at hT
  rw [V_main_v0, V_main_v1, V_main_arg4] at hT
  rw [← turned_eq]
  unfold Pipeline.afterTail₀
  simp only [List.flatten_cons, List.flatten_nil, List.append_nil, hostOps1]
  after_results_simp
  exact congrArg (fun v => shapeCast S64x4096x16 (extf (F := Ideal) .f32 (transpose S262144x16 [1, 0] v
    transposes_S16x262144_S262144x16_1_0) bitsLt_bf16_f32) shapeCasts_S262144x16_S64x4096x16) hT

/-- The kernel's run: its result at the affine map, its arguments as they were. -/
theorem run : θ_run defs (onTc (τ := τ) (main (F := Ideal))) ⟨m, fun _ => 0, ρ⟩ fun r => ∀ c : Dev nD,
      r.2.mem ((c.tc : Thread nD τ).loc main_v5)
        = affine (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).trans (W_main_v5 m c), h.2 c⟩)
    (θ_run_and ((θ_run defs _ _).mono (fun _ h c => (h c).2 main_v5 (Pipeline.mem_restRefs_of main_v5 (by decide) (by decide))) (run_main m ρ)) (unchanged m ρ))

end Cert.Proof.KernelValue

end
-- ==== Proof.RefRun.lean ====
/- The reference's host operations as a list, and its run read back from them: each result is the operations' composed
   term of the arguments' launch contents, and the arguments are unchanged. The scatter's index operand is an empty
   tensor, so its element type is written out here. -/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 107 operations, in order (a called function's operations stand in its call's place, spelt `TRef.…`). -/
abbrev ops : List (HloOp τ sig (Elt F)) :=
  [ nullary main_c (emptyVec S0 hz_S0),
    nullary main_cst (constant S_ .f32 0x00000000#32),
    unary main_cst main_v0 (broadcastInDim S64x4096x16 ![] bcast_S_S64x4096x16 : (⟨S_, .f32⟩ : BufTy).Contents (Elt F) → (⟨S64x4096x16, .f32⟩ : BufTy).Contents (Elt F)),
    unary main_arg1 main_v1 ((extractStridedSlice S1x128 ![0, 0] · slices_S64x128_S1x128_0_0) : (⟨S64x128, .i32⟩ : BufTy).Contents (Elt F) → (⟨S1x128, .i32⟩ : BufTy).Contents (Elt F)),
    reshape main_v1 main_v2 (rfl : (.i32 : EltTy) = .i32) shapeCasts_S1x128_S128,
    nullary main_c_0 (constantI S_ 32 0#32),
    unary main_c_0 main_v3 (broadcastInDim S128 ![] bcast_S_S128 : (⟨S_, .i32⟩ : BufTy).Contents (Elt F) → (⟨S128, .i32⟩ : BufTy).Contents (Elt F)),
    binary main_v2 main_v3 main_v4 (cmpi .eq : (⟨S128, .i32⟩ : BufTy).Contents (Elt F) → (⟨S128, .i32⟩ : BufTy).Contents (Elt F) → (⟨S128, .i1⟩ : BufTy).Contents (Elt F)),
    TRef.unary (TRef.of (T := ⟨S128, .i1⟩) main_v4) (TRef.of (T := ⟨S128, .i32⟩) main_call0_v0) (extui 32 · natLt_1_32),
    TRef.nullary (TRef.of (T := ⟨S_, .i32⟩) main_call0_call0_c) (constantI S_ 32 0#32),
    TRef.unary (TRef.of (T := ⟨S_, .i32⟩) main_call0_call0_c) (TRef.of (T := ⟨S_, .i32⟩) main_call0_call0_v0) (broadcastInDim S_ ![] bcast_S_S_),
    TRef.binary (TRef.of (T := ⟨S128, .i32⟩) main_call0_v0) (TRef.of (T := ⟨S_, .i32⟩) main_call0_call0_v0) (TRef.of (T := ⟨S128, .i32⟩) main_v5) (fun x v => Host.reduceWindow IntOp.addi ![128] ![1] ![127] ![0] x v reduceWindows_S128_S128_w128s1p127_0 h_S_),
    nullary main_c_1 (constantI S_ 32 0#32),
    unary main_c_1 main_v6 (broadcastInDim S128 ![] bcast_S_S128 : (⟨S_, .i32⟩ : BufTy).Contents (Elt F) → (⟨S128, .i32⟩ : BufTy).Contents (Elt F)),
    nullary main_c_2 (constantI S_ 32 0#32),
    unary main_c_2 main_v7 (broadcastInDim S128 ![] bcast_S_S128 : (⟨S_, .i32⟩ : BufTy).Contents (Elt F) → (⟨S128, .i32⟩ : BufTy).Contents (Elt F)),
    binary main_v5 main_v7 main_v8 (cmpi .slt : (⟨S128, .i32⟩ : BufTy).Contents (Elt F) → (⟨S128, .i32⟩ : BufTy).Contents (Elt F) → (⟨S128, .i1⟩ : BufTy).Contents (Elt F)),
    nullary main_c_3 (constantI S_ 32 128#32),
    unary main_c_3 main_v9 (broadcastInDim S128 ![] bcast_S_S128 : (⟨S_, .i32⟩ : BufTy).Contents (Elt F) → (⟨S128, .i32⟩ : BufTy).Contents (Elt F)),
    binary main_v5 main_v9 main_v10 (addi : (⟨S128, .i32⟩ : BufTy).Contents (Elt F) → (⟨S128, .i32⟩ : BufTy).Contents (Elt F) → (⟨S128, .i32⟩ : BufTy).Contents (Elt F)),
    ternary main_v8 main_v10 main_v5 main_v11 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v11 main_v12 (broadcastInDim S128x1 ![0] bcast_S128_S128x1_0 : (⟨S128, .i32⟩ : BufTy).Contents (Elt F) → (⟨S128x1, .i32⟩ : BufTy).Contents (Elt F)),
    nullary main_c_4 (constantI S_ 32 1#32),
    unary main_c_4 main_v13 (broadcastInDim S128 ![] bcast_S_S128 : (⟨S_, .i32⟩ : BufTy).Contents (Elt F) → (⟨S128, .i32⟩ : BufTy).Contents (Elt F)),
    ternary main_v6 main_v12 main_v13 main_v14 ((fun x i u => Host.scatter scatter_S128_S128x1_S128_n_0_0_1 IntOp.addi x i u) : (⟨S128, .i32⟩ : BufTy).Contents (Elt F) → (⟨S128x1, .i32⟩ : BufTy).Contents (Elt F) → (⟨S128, .i32⟩ : BufTy).Contents (Elt F) → (⟨S128, .i32⟩ : BufTy).Contents (Elt F)),
    TRef.nullary (TRef.of (T := ⟨S_, .i32⟩) main_call1_call0_c) (constantI S_ 32 0#32),
    TRef.unary (TRef.of (T := ⟨S_, .i32⟩) main_call1_call0_c) (TRef.of (T := ⟨S_, .i32⟩) main_call1_call0_v0) (broadcastInDim S_ ![] bcast_S_S_),
    TRef.binary (TRef.of (T := ⟨S128, .i32⟩) main_v14) (TRef.of (T := ⟨S_, .i32⟩) main_call1_call0_v0) (TRef.of (T := ⟨S128, .i32⟩) main_v15) (fun x v => Host.reduceWindow IntOp.addi ![128] ![1] ![127] ![0] x v reduceWindows_S128_S128_w128s1p127_0 h_S_),
    nullary main_c_5 (constantI S_ 32 1#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S128, .i32⟩) main_call2_v1) (broadcastInDim S128 ![] bcast_S_S128),
    TRef.binary (TRef.of (T := ⟨S128, .i32⟩) main_v15) (TRef.of (T := ⟨S128, .i32⟩) main_call2_v1) (TRef.of (T := ⟨S128, .i32⟩) main_call2_v2) Host.divsi,
    TRef.unary (TRef.of (T := ⟨S128, .i32⟩) main_v15) (TRef.of (T := ⟨S128, .i32⟩) main_call2_v3) signi,
    TRef.unary (TRef.of (T := ⟨S_, .i32⟩) main_call2_v0) (TRef.of (T := ⟨S_, .i32⟩) main_call2_v4) signi,
    TRef.unary (TRef.of (T := ⟨S_, .i32⟩) main_call2_v4) (TRef.of (T := ⟨S128, .i32⟩) main_call2_v5) (broadcastInDim S128 ![] bcast_S_S128),
    TRef.binary (TRef.of (T := ⟨S128, .i32⟩) main_call2_v3) (TRef.of (T := ⟨S128, .i32⟩) main_call2_v5) (TRef.of (T := ⟨S128, .i1⟩) main_call2_v6) (cmpi .ne),
    TRef.unary (TRef.of (T := ⟨S_, .i32⟩) main_call2_v0) (TRef.of (T := ⟨S128, .i32⟩) main_call2_v7) (broadcastInDim S128 ![] bcast_S_S128),
    TRef.binary (TRef.of (T := ⟨S128, .i32⟩) main_v15) (TRef.of (T := ⟨S128, .i32⟩) main_call2_v7) (TRef.of (T := ⟨S128, .i32⟩) main_call2_v8) Host.remsi,
    TRef.nullary (TRef.of (T := ⟨S_, .i32⟩) main_call2_c) (constantI S_ 32 0#32),
    TRef.unary (TRef.of (T := ⟨S_, .i32⟩) main_call2_c) (TRef.of (T := ⟨S128, .i32⟩) main_call2_v9) (broadcastInDim S128 ![] bcast_S_S128),
    TRef.binary (TRef.of (T := ⟨S128, .i32⟩) main_call2_v8) (TRef.of (T := ⟨S128, .i32⟩) main_call2_v9) (TRef.of (T := ⟨S128, .i1⟩) main_call2_v10) (cmpi .ne),
    TRef.binary (TRef.of (T := ⟨S128, .i1⟩) main_call2_v6) (TRef.of (T := ⟨S128, .i1⟩) main_call2_v10) (TRef.of (T := ⟨S128, .i1⟩) main_call2_v11) andi,
    TRef.nullary (TRef.of (T := ⟨S_, .i32⟩) main_call2_c_0) (constantI S_ 32 1#32),
    TRef.unary (TRef.of (T := ⟨S_, .i32⟩) main_call2_c_0) (TRef.of (T := ⟨S128, .i32⟩) main_call2_v12) (broadcastInDim S128 ![] bcast_S_S128),
    TRef.binary (TRef.of (T := ⟨S128, .i32⟩) main_call2_v2) (TRef.of (T := ⟨S128, .i32⟩) main_call2_v12) (TRef.of (T := ⟨S128, .i32⟩) main_call2_v13) subi,
    TRef.ternary (TRef.of (T := ⟨S128, .i1⟩) main_call2_v11) (TRef.of (T := ⟨S128, .i32⟩) main_call2_v13) (TRef.of (T := ⟨S128, .i32⟩) main_call2_v2) (TRef.of (T := ⟨S128, .i32⟩) main_v16) select,
    nullary main_c_6 (constantI S_ 32 128#32),
    TRef.unary (TRef.of (T := ⟨S_, .i32⟩) main_c_6) (TRef.of (T := ⟨S_, .i32⟩) main_call3_v0) id,
    TRef.nullary (TRef.of (T := ⟨S_, .i32⟩) main_call3_c) (constantI S_ 32 0#32),
    TRef.binary (TRef.of (T := ⟨S_, .i32⟩) main_call3_v0) (TRef.of (T := ⟨S_, .i32⟩) main_call3_c) (TRef.of (T := ⟨S_, .i1⟩) main_call3_v1) (cmpi .eq),
    TRef.nullary (TRef.of (T := ⟨S_, .i32⟩) main_call3_c_0) (constantI S_ 32 1#32),
    TRef.ternary (TRef.of (T := ⟨S_, .i1⟩) main_call3_v1) (TRef.of (T := ⟨S_, .i32⟩) main_call3_c_0) (TRef.of (T := ⟨S_, .i32⟩) main_call3_v0) (TRef.of (T := ⟨S_, .i32⟩) main_call3_v2) select,
    TRef.unary (TRef.of (T := ⟨S_, .i32⟩) main_call3_v2) (TRef.of (T := ⟨S128, .i32⟩) main_call3_v3) (broadcastInDim S128 ![] bcast_S_S128),
    TRef.binary (TRef.of (T := ⟨S128, .i32⟩) main_v16) (TRef.of (T := ⟨S128, .i32⟩) main_call3_v3) (TRef.of (T := ⟨S128, .i32⟩) main_call3_v4) Host.remsi,
    TRef.nullary (TRef.of (T := ⟨S_, .i32⟩) main_call3_c_1) (constantI S_ 32 0#32),
    TRef.unary (TRef.of (T := ⟨S_, .i32⟩) main_call3_c_1) (TRef.of (T := ⟨S128, .i32⟩) main_call3_v5) (broadcastInDim S128 ![] bcast_S_S128),
    TRef.binary (TRef.of (T := ⟨S128, .i32⟩) main_call3_v4) (TRef.of (T := ⟨S128, .i32⟩) main_call3_v5) (TRef.of (T := ⟨S128, .i1⟩) main_call3_v6) (cmpi .ne),
    TRef.nullary (TRef.of (T := ⟨S_, .i32⟩) main_call3_c_2) (constantI S_ 32 0#32),
    TRef.unary (TRef.of (T := ⟨S_, .i32⟩) main_call3_c_2) (TRef.of (T := ⟨S128, .i32⟩) main_call3_v7) (broadcastInDim S128 ![] bcast_S_S128),
    TRef.binary (TRef.of (T := ⟨S128, .i32⟩) main_call3_v4) (TRef.of (T := ⟨S128, .i32⟩) main_call3_v7) (TRef.of (T := ⟨S128, .i1⟩) main_call3_v8) (cmpi .slt),
    TRef.nullary (TRef.of (T := ⟨S_, .i32⟩) main_call3_c_3) (constantI S_ 32 0#32),
    TRef.binary (TRef.of (T := ⟨S_, .i32⟩) main_call3_v2) (TRef.of (T := ⟨S_, .i32⟩) main_call3_c_3) (TRef.of (T := ⟨S_, .i1⟩) main_call3_v9) (cmpi .slt),
    TRef.unary (TRef.of (T := ⟨S_, .i1⟩) main_call3_v9) (TRef.of (T := ⟨S128, .i1⟩) main_call3_v10) (broadcastInDim S128 ![] bcast_S_S128),
    TRef.binary (TRef.of (T := ⟨S128, .i1⟩) main_call3_v8) (TRef.of (T := ⟨S128, .i1⟩) main_call3_v10) (TRef.of (T := ⟨S128, .i1⟩) main_call3_v11) (cmpi .ne),
    TRef.binary (TRef.of (T := ⟨S128, .i1⟩) main_call3_v11) (TRef.of (T := ⟨S128, .i1⟩) main_call3_v6) (TRef.of (T := ⟨S128, .i1⟩) main_call3_v12) andi,
    TRef.unary (TRef.of (T := ⟨S_, .i32⟩) main_call3_v2) (TRef.of (T := ⟨S128, .i32⟩) main_call3_v13) (broadcastInDim S128 ![] bcast_S_S128),
    TRef.binary (TRef.of (T := ⟨S128, .i32⟩) main_call3_v4) (TRef.of (T := ⟨S128, .i32⟩) main_call3_v13) (TRef.of (T := ⟨S128, .i32⟩) main_call3_v14) addi,
    TRef.ternary (TRef.of (T := ⟨S128, .i1⟩) main_call3_v12) (TRef.of (T := ⟨S128, .i32⟩) main_call3_v14) (TRef.of (T := ⟨S128, .i32⟩) main_call3_v4) (TRef.of (T := ⟨S128, .i32⟩) main_v17) select,
    unary main_v4 main_v18 ((extui 32 · natLt_1_32) : (⟨S128, .i1⟩ : BufTy).Contents (Elt F) → (⟨S128, .i32⟩ : BufTy).Contents (Elt F)),
    nullary main_c_7 (constantI S_ 32 0#32),
    binary main_v18 main_c_7 main_v19 ((fun x v => Host.reduce IntOp.addi x v reducesTo_S128_S_d0 h_S_) : (⟨S128, .i32⟩ : BufTy).Contents (Elt F) → (⟨S_, .i32⟩ : BufTy).Contents (Elt F) → (⟨S_, .i32⟩ : BufTy).Contents (Elt F)),
    unary main_v19 main_v20 (broadcastInDim S1 ![] bcast_S_S1 : (⟨S_, .i32⟩ : BufTy).Contents (Elt F) → (⟨S1, .i32⟩ : BufTy).Contents (Elt F)),
    nullary main_v21 (iotaInDim S128 32 0),
    unary main_v20 main_v22 (broadcastInDim S128 ![0] bcast_S1_S128_0 : (⟨S1, .i32⟩ : BufTy).Contents (Elt F) → (⟨S128, .i32⟩ : BufTy).Contents (Elt F)),
    binary main_v21 main_v22 main_v23 (cmpi .sge : (⟨S128, .i32⟩ : BufTy).Contents (Elt F) → (⟨S128, .i32⟩ : BufTy).Contents (Elt F) → (⟨S128, .i1⟩ : BufTy).Contents (Elt F)),
    nullary main_c_8 (constantI S_ 32 0#32),
    TRef.unary (TRef.of (T := ⟨S_, .i32⟩) main_c_8) (TRef.of (T := ⟨S_, .i32⟩) main_call4_v0) id,
    TRef.unary (TRef.of (T := ⟨S_, .i32⟩) main_call4_v0) (TRef.of (T := ⟨S128, .i32⟩) main_call4_v1) (broadcastInDim S128 ![] bcast_S_S128),
    TRef.ternary (TRef.of (T := ⟨S128, .i1⟩) main_v23) (TRef.of (T := ⟨S128, .i32⟩) main_call4_v1) (TRef.of (T := ⟨S128, .i32⟩) main_v17) (TRef.of (T := ⟨S128, .i32⟩) main_v24) select,
    TRef.nullary (TRef.of (T := ⟨S_, .i32⟩) main_call5_c) (constantI S_ 32 0#32),
    TRef.unary (TRef.of (T := ⟨S_, .i32⟩) main_call5_c) (TRef.of (T := ⟨S128, .i32⟩) main_call5_v0) (broadcastInDim S128 ![] bcast_S_S128),
    TRef.binary (TRef.of (T := ⟨S128, .i32⟩) main_v24) (TRef.of (T := ⟨S128, .i32⟩) main_call5_v0) (TRef.of (T := ⟨S128, .i1⟩) main_call5_v1) (cmpi .slt),
    TRef.nullary (TRef.of (T := ⟨S_, .i32⟩) main_call5_c_0) (constantI S_ 32 128#32),
    TRef.unary (TRef.of (T := ⟨S_, .i32⟩) main_call5_c_0) (TRef.of (T := ⟨S128, .i32⟩) main_call5_v2) (broadcastInDim S128 ![] bcast_S_S128),
    TRef.binary (TRef.of (T := ⟨S128, .i32⟩) main_v24) (TRef.of (T := ⟨S128, .i32⟩) main_call5_v2) (TRef.of (T := ⟨S128, .i32⟩) main_call5_v3) addi,
    TRef.ternary (TRef.of (T := ⟨S128, .i1⟩) main_call5_v1) (TRef.of (T := ⟨S128, .i32⟩) main_call5_v3) (TRef.of (T := ⟨S128, .i32⟩) main_v24) (TRef.of (T := ⟨S128, .i32⟩) main_call5_v4) select,
    TRef.unary (TRef.of (T := ⟨S128, .i32⟩) main_call5_v4) (TRef.of (T := ⟨S128x1, .i32⟩) main_call5_v5) (broadcastInDim S128x1 ![0] bcast_S128_S128x1_0),
    TRef.nullary (TRef.of (T := ⟨S1, .i32⟩) main_call5_c_1) (constantI S1 32 127#32),
    TRef.nullary (TRef.of (T := ⟨S_, .i32⟩) main_call5_c_2) (constantI S_ 32 0#32),
    TRef.unary (TRef.of (T := ⟨S_, .i32⟩) main_call5_c_2) (TRef.of (T := ⟨S128x1, .i32⟩) main_call5_v6) (broadcastInDim S128x1 ![] bcast_S_S128x1),
    TRef.binary (TRef.of (T := ⟨S128x1, .i32⟩) main_call5_v5) (TRef.of (T := ⟨S128x1, .i32⟩) main_call5_v6) (TRef.of (T := ⟨S128x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S128x1, .i32⟩) main_call5_v9) (broadcastInDim S128x1 ![0, 1] bcast_S1x1_S128x1_0_1),
    TRef.binary (TRef.of (T := ⟨S128x1, .i32⟩) main_call5_v5) (TRef.of (T := ⟨S128x1, .i32⟩) main_call5_v9) (TRef.of (T := ⟨S128x1, .i1⟩) main_call5_v10) (cmpi .sle),
    TRef.binary (TRef.of (T := ⟨S128x1, .i1⟩) main_call5_v7) (TRef.of (T := ⟨S128x1, .i1⟩) main_call5_v10) (TRef.of (T := ⟨S128x1, .i1⟩) main_call5_v11) andi,
    TRef.nullary (TRef.of (T := ⟨S_, .i1⟩) main_call5_c_3) (constantI S_ 1 1#1),
    TRef.binary (TRef.of (T := ⟨S128x1, .i1⟩) main_call5_v11) (TRef.of (T := ⟨S_, .i1⟩) main_call5_c_3) (TRef.of (T := ⟨S128, .i1⟩) main_call5_v12) (fun x v => Host.reduce IntOp.andi x v reducesTo_S128x1_S128_d1 h_S_),
    TRef.binary (TRef.of (T := ⟨S64x4096x128, .f32⟩) main_arg0) (TRef.of (T := ⟨S128x1, .i32⟩) main_call5_v5) (TRef.of (T := ⟨S64x4096x128, .f32⟩) main_call5_v13) (fun x i => Host.gather gather_S64x4096x128_S128x1_S64x4096x128_01_2_n_n_2_1_6440961 x i),
    TRef.unary (TRef.of (T := ⟨S128, .i1⟩) main_call5_v12) (TRef.of (T := ⟨S64x4096x128, .i1⟩) main_call5_v14) (broadcastInDim S64x4096x128 ![2] bcast_S128_S64x4096x128_2),
    TRef.nullary (TRef.of (T := ⟨S_, .f32⟩) main_call5_cst) (constant S_ .f32 0x7FC00000#32),
    TRef.unary (TRef.of (T := ⟨S_, .f32⟩) main_call5_cst) (TRef.of (T := ⟨S64x4096x128, .f32⟩) main_call5_v15) (broadcastInDim S64x4096x128 ![] bcast_S_S64x4096x128),
    TRef.ternary (TRef.of (T := ⟨S64x4096x128, .i1⟩) main_call5_v14) (TRef.of (T := ⟨S64x4096x128, .f32⟩) main_call5_v13) (TRef.of (T := ⟨S64x4096x128, .f32⟩) main_call5_v15) (TRef.of (T := ⟨S64x4096x128, .f32⟩) main_v25) select,
    binary main_v25 main_arg4 main_v26 ((fun l r => Host.dotGeneral dot_S64x4096x128_S128x16_S64x4096x16_2_0_01_1_n_n none l r) : (⟨S64x4096x128, .f32⟩ : BufTy).Contents (Elt F) → (⟨S128x16, .f32⟩ : BufTy).Contents (Elt F) → (⟨S64x4096x16, .f32⟩ : BufTy).Contents (Elt F)),
    unary main_arg5 main_v27 (broadcastInDim S1x1x16 ![2] bcast_S16_S1x1x16_2 : (⟨S16, .f32⟩ : BufTy).Contents (Elt F) → (⟨S1x1x16, .f32⟩ : BufTy).Contents (Elt F)),
    unary main_v27 main_v28 (broadcastInDim S64x4096x16 ![0, 1, 2] bcast_S1x1x16_S64x4096x16_0_1_2 : (⟨S1x1x16, .f32⟩ : BufTy).Contents (Elt F) → (⟨S64x4096x16, .f32⟩ : BufTy).Contents (Elt F)),
    binary main_v26 main_v28 main_v29 (addf : (⟨S64x4096x16, .f32⟩ : BufTy).Contents (Elt F) → (⟨S64x4096x16, .f32⟩ : BufTy).Contents (Elt F) → (⟨S64x4096x16, .f32⟩ : BufTy).Contents (Elt F)),
    ternary main_v0 main_c main_v29 main_v30 ((fun x i u => Host.scatter scatter_S64x4096x16_S0_S64x4096x16_012_n_n_0 (fun _ b => b) x i u) : (⟨S64x4096x16, .f32⟩ : BufTy).Contents (Elt F) → (⟨S0, .i32⟩ : BufTy).Contents (Elt F) → (⟨S64x4096x16, .f32⟩ : BufTy).Contents (Elt F) → (⟨S64x4096x16, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., reshape_bufs_sub .., nullary_bufs_sub .., unary_bufs_sub .., binary_bufs_sub .., unary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., unary_bufs_sub .., nullary_bufs_sub .., binary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., ternary_bufs_sub ..⟩

set_option maxRecDepth 8192 in
/-- `main_v4`'s composed term of the arguments (named: it is used 2 times). -/
def res_main_v4 (V0 : Valuation τ sig (Elt F)) : (Proc.devRef .tc main_v4 : DevRef τ sig).ty.Contents (Elt F) :=
  cmpi .eq (shapeCast _ (extractStridedSlice S1x128 ![0, 0] (V0 (Proc.devRef .tc main_arg1)) slices_S64x128_S1x128_0_0) shapeCasts_S1x128_S128) (broadcastInDim S128 ![] bcast_S_S128 (constantI S_ 32 0#32))

set_option maxRecDepth 8192 in
/-- `main_v5`'s composed term of the arguments (named: it is used 3 times). -/
def res_main_v5 (V0 : Valuation τ sig (Elt F)) : (Proc.devRef .tc main_v5 : DevRef τ sig).ty.Contents (Elt F) :=
  Host.reduceWindow IntOp.addi ![128] ![1] ![127] ![0] (extui 32 (res_main_v4 V0) natLt_1_32) (broadcastInDim S_ ![] bcast_S_S_ (constantI S_ 32 0#32)) reduceWindows_S128_S128_w128s1p127_0 h_S_

set_option maxRecDepth 8192 in
/-- `main_v15`'s composed term of the arguments (named: it is used 3 times). -/
def res_main_v15 (V0 : Valuation τ sig (Elt F)) : (Proc.devRef .tc main_v15 : DevRef τ sig).ty.Contents (Elt F) :=
  Host.reduceWindow IntOp.addi ![128] ![1] ![127] ![0] (Host.scatter scatter_S128_S128x1_S128_n_0_0_1 IntOp.addi (broadcastInDim S128 ![] bcast_S_S128 (constantI S_ 32 0#32)) (broadcastInDim S128x1 ![0] bcast_S128_S128x1_0 (select (cmpi .slt (res_main_v5 V0) (broadcastInDim S128 ![] bcast_S_S128 (constantI S_ 32 0#32))) (addi (res_main_v5 V0) (broadcastInDim S128 ![] bcast_S_S128 (constantI S_ 32 128#32))) (res_main_v5 V0))) (broadcastInDim S128 ![] bcast_S_S128 (constantI S_ 32 1#32))) (broadcastInDim S_ ![] bcast_S_S_ (constantI S_ 32 0#32)) reduceWindows_S128_S128_w128s1p127_0 h_S_

set_option maxRecDepth 8192 in
/-- `main_call2_v0`'s composed term of the arguments (named: it is used 3 times). -/
def res_main_call2_v0 (V0 : Valuation τ sig (Elt F)) : (Proc.devRef .tc main_call2_v0 : DevRef τ sig).ty.Contents (Elt F) :=
  id (constantI S_ 32 1#32)

set_option maxRecDepth 8192 in
/-- `main_call2_v2`'s composed term of the arguments (named: it is used 2 times). -/
def res_main_call2_v2 (V0 : Valuation τ sig (Elt F)) : (Proc.devRef .tc main_call2_v2 : DevRef τ sig).ty.Contents (Elt F) :=
  Host.divsi (res_main_v15 V0) (broadcastInDim S128 ![] bcast_S_S128 (res_main_call2_v0 V0))

set_option maxRecDepth 8192 in
/-- `main_call3_v0`'s composed term of the arguments (named: it is used 2 times). -/
def res_main_call3_v0 (V0 : Valuation τ sig (Elt F)) : (Proc.devRef .tc main_call3_v0 : DevRef τ sig).ty.Contents (Elt F) :=
  id (constantI S_ 32 128#32)

set_option maxRecDepth 8192 in
/-- `main_call3_v2`'s composed term of the arguments (named: it is used 3 times). -/
def res_main_call3_v2 (V0 : Valuation τ sig (Elt F)) : (Proc.devRef .tc main_call3_v2 : DevRef τ sig).ty.Contents (Elt F) :=
  select (cmpi .eq (res_main_call3_v0 V0) (constantI S_ 32 0#32)) (constantI S_ 32 1#32) (res_main_call3_v0 V0)

set_option maxRecDepth 8192 in
/-- `main_call3_v4`'s composed term of the arguments (named: it is used 4 times). -/
def res_main_call3_v4 (V0 : Valuation τ sig (Elt F)) : (Proc.devRef .tc main_call3_v4 : DevRef τ sig).ty.Contents (Elt F) :=
  Host.remsi (select (andi (cmpi .ne (signi (res_main_v15 V0)) (broadcastInDim S128 ![] bcast_S_S128 (signi (res_main_call2_v0 V0)))) (cmpi .ne (Host.remsi (res_main_v15 V0) (broadcastInDim S128 ![] bcast_S_S128 (res_main_call2_v0 V0))) (broadcastInDim S128 ![] bcast_S_S128 (constantI S_ 32 0#32)))) (subi (res_main_call2_v2 V0) (broadcastInDim S128 ![] bcast_S_S128 (constantI S_ 32 1#32))) (res_main_call2_v2 V0)) (broadcastInDim S128 ![] bcast_S_S128 (res_main_call3_v2 V0))

set_option maxRecDepth 8192 in
/-- `main_v24`'s composed term of the arguments (named: it is used 3 times). -/
def res_main_v24 (V0 : Valuation τ sig (Elt F)) : (Proc.devRef .tc main_v24 : DevRef τ sig).ty.Contents (Elt F) :=
  select (cmpi .sge (iotaInDim S128 32 0) (broadcastInDim S128 ![0] bcast_S1_S128_0 (broadcastInDim S1 ![] bcast_S_S1 (Host.reduce IntOp.addi (extui 32 (res_main_v4 V0) natLt_1_32) (constantI S_ 32 0#32) reducesTo_S128_S_d0 h_S_)))) (broadcastInDim S128 ![] bcast_S_S128 (id (constantI S_ 32 0#32))) (select (andi (cmpi .ne (cmpi .slt (res_main_call3_v4 V0) (broadcastInDim S128 ![] bcast_S_S128 (constantI S_ 32 0#32))) (broadcastInDim S128 ![] bcast_S_S128 (cmpi .slt (res_main_call3_v2 V0) (constantI S_ 32 0#32)))) (cmpi .ne (res_main_call3_v4 V0) (broadcastInDim S128 ![] bcast_S_S128 (constantI S_ 32 0#32)))) (addi (res_main_call3_v4 V0) (broadcastInDim S128 ![] bcast_S_S128 (res_main_call3_v2 V0))) (res_main_call3_v4 V0))

set_option maxRecDepth 8192 in
/-- `main_call5_v5`'s composed term of the arguments (named: it is used 3 times). -/
def res_main_call5_v5 (V0 : Valuation τ sig (Elt F)) : (Proc.devRef .tc main_call5_v5 : DevRef τ sig).ty.Contents (Elt F) :=
  broadcastInDim S128x1 ![0] bcast_S128_S128x1_0 (select (cmpi .slt (res_main_v24 V0) (broadcastInDim S128 ![] bcast_S_S128 (constantI S_ 32 0#32))) (addi (res_main_v24 V0) (broadcastInDim S128 ![] bcast_S_S128 (constantI S_ 32 128#32))) (res_main_v24 V0))

set_option maxRecDepth 8192 in
set_option maxHeartbeats 42800000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30) = Host.scatter scatter_S64x4096x16_S0_S64x4096x16_012_n_n_0 (fun _ b => b) (broadcastInDim S64x4096x16 ![] bcast_S_S64x4096x16 (constant S_ .f32 0x00000000#32)) (emptyVec S0 hz_S0 : IVec S0 32) (addf (Host.dotGeneral dot_S64x4096x128_S128x16_S64x4096x16_2_0_01_1_n_n none (select (broadcastInDim S64x4096x128 ![2] bcast_S128_S64x4096x128_2 (Host.reduce IntOp.andi (andi (cmpi .sge (res_main_call5_v5 (launchContents m c)) (broadcastInDim S128x1 ![] bcast_S_S128x1 (constantI S_ 32 0#32))) (cmpi .sle (res_main_call5_v5 (launchContents m c)) (broadcastInDim S128x1 ![0, 1] bcast_S1x1_S128x1_0_1 (broadcastInDim S1x1 ![1] bcast_S1_S1x1_1 (constantI S1 32 127#32))))) (constantI S_ 1 1#1) reducesTo_S128x1_S128_d1 h_S_)) (Host.gather gather_S64x4096x128_S128x1_S64x4096x128_01_2_n_n_2_1_6440961 ((launchContents m c) (Proc.devRef .tc main_arg0)) (res_main_call5_v5 (launchContents m c))) (broadcastInDim S64x4096x128 ![] bcast_S_S64x4096x128 (constant S_ .f32 0x7FC00000#32))) ((launchContents m c) (Proc.devRef .tc main_arg4))) (broadcastInDim S64x4096x16 ![0, 1, 2] bcast_S1x1x16_S64x4096x16_0_1_2 (broadcastInDim S1x1x16 ![2] bcast_S16_S1x1x16_2 ((launchContents m c) (Proc.devRef .tc main_arg5)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v30).trans (by simp only [ops, TRef.binary, TRef.nullary, TRef.ternary, TRef.unary, TRef.toBuf, TRef.ofBuf, cast_eq]; after_results_simp <;> rfl),
      (h c main_arg0).trans (by simp only [ops, TRef.binary, TRef.nullary, TRef.ternary, TRef.unary, TRef.toBuf, TRef.ofBuf, cast_eq]; after_results_simp <;> rfl),
      (h c main_arg1).trans (by simp only [ops, TRef.binary, TRef.nullary, TRef.ternary, TRef.unary, TRef.toBuf, TRef.ofBuf, cast_eq]; after_results_simp <;> rfl),
      (h c main_arg2).trans (by simp only [ops, TRef.binary, TRef.nullary, TRef.ternary, TRef.unary, TRef.toBuf, TRef.ofBuf, cast_eq]; after_results_simp <;> rfl),
      (h c main_arg3).trans (by simp only [ops, TRef.binary, TRef.nullary, TRef.ternary, TRef.unary, TRef.toBuf, TRef.ofBuf, cast_eq]; after_results_simp <;> rfl),
      (h c main_arg4).trans (by simp only [ops, TRef.binary, TRef.nullary, TRef.ternary, TRef.unary, TRef.toBuf, TRef.ofBuf, cast_eq]; after_results_simp <;> rfl),
      (h c main_arg5).trans (by simp only [ops, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.Proof.RefRun

end
-- ==== Proof.Nonzero.lean ====
/- The reference's indices of the neurons in the area, when every neuron is in it: the positions themselves.
   Each stage of the integer computation is a function of the position alone, decided at the 128 positions. -/
module

public import proofs.«01_k».proof.Proof.RefRun
public import Idealize.ShloMosaic.Lib.ValueIdxCore
public import Idealize.ShloMosaic.Lib.Pipeline.Value

@[expose] public section

set_option maxRecDepth 16384

noncomputable section

namespace Cert.Proof.Nonzero

open Cert.ReferenceIdeal Cert.ReferenceIdeal.Gen Idealize.ShloMosaic Idealize.ShloMosaic.ValueIdx Idealize.SL.Sem

/-- Two vectors over the 128 positions agree when they agree at each. -/
theorem ext128 {α : Type} {f g : S128.Idx → α} (h : ∀ i : Fin 128, f (ix1 i) = g (ix1 i)) : f = g :=
  funext fun j => by rw [eq_ix1 (n := 128) j]; exact h _

/-- Two vectors over the 128 × 1 positions agree when they agree at each. -/
theorem ext128x1 {α : Type} {f g : S128x1.Idx → α} (h : ∀ i : Fin 128, f (ix2 i 0) = g (ix2 i 0)) : f = g :=
  funext fun j => by
    obtain ⟨i, k, rfl⟩ : ∃ (i : Fin 128) (k : Fin 1), j = ix2 i k := ⟨j 0, j 1, eq_ix2 j⟩
    obtain rfl : k = 0 := Subsingleton.elim _ _
    exact h i

/-- The position, as a 32-bit word. -/
def position : IVec S128 32 := fun j => BitVec.ofNat 32 (j 0).val

/-- The position as a one-word start index. -/
def position1 : IVec S128x1 32 := fun j => BitVec.ofNat 32 (j 0).val

/-- One more than the position. -/
def next : IVec S128 32 := fun j => BitVec.ofNat 32 ((j 0).val + 1)

/-- One more than the position, as a one-word index. -/
def next1 : IVec S128x1 32 := fun j => BitVec.ofNat 32 ((j 0).val + 1)

/-- One everywhere but at position 0. -/
def steps : IVec S128 32 := fun j => if (j 0).val = 0 then 0#32 else 1#32

/-- The running count of an all-one vector. -/
theorem count_ones :
    Host.reduceWindow IntOp.addi ![128] ![1] ![127] ![0] (extui 32 (fun _ => 1#1 : IVec S128 1) natLt_1_32) (broadcastInDim S_ ![] bcast_S_S_ (constantI S_ 32 0#32))
      reduceWindows_S128_S128_w128s1p127_0 h_S_ = next :=
  ext128 (by decide +kernel)

/-- None of those counts is negative, so none is wrapped. -/
theorem wrap_next : broadcastInDim S128x1 ![0] bcast_S128_S128x1_0 (select (cmpi .slt next (broadcastInDim S128 ![] bcast_S_S128 (constantI S_ 32 0#32))) (addi next (broadcastInDim S128 ![] bcast_S_S128 (constantI S_ 32 128#32))) next) = next1 :=
  ext128x1 (by decide +kernel)

/-- One is added at each of the positions 1, …, 127; the index 128 is past the end and is dropped. -/
theorem scatter_ones :
    Host.scatter scatter_S128_S128x1_S128_n_0_0_1 IntOp.addi (broadcastInDim S128 ![] bcast_S_S128 (constantI S_ 32 0#32)) next1 (broadcastInDim S128 ![] bcast_S_S128 (constantI S_ 32 1#32)) = steps :=
  ext128 (by decide +kernel)

/-- The running count of those ones is the position. -/
theorem count_steps :
    Host.reduceWindow IntOp.addi ![128] ![1] ![127] ![0] steps (broadcastInDim S_ ![] bcast_S_S_ (constantI S_ 32 0#32))
      reduceWindows_S128_S128_w128s1p127_0 h_S_ = position :=
  ext128 (by decide +kernel)

/-- Dividing by 1 and taking the remainder by 128 leave the position. -/
theorem remainder_position :
    Host.remsi (select (andi (cmpi .ne (signi position) (broadcastInDim S128 ![] bcast_S_S128 (signi (id (constantI S_ 32 1#32))))) (cmpi .ne (Host.remsi position (broadcastInDim S128 ![] bcast_S_S128 (id (constantI S_ 32 1#32)))) (broadcastInDim S128 ![] bcast_S_S128 (constantI S_ 32 0#32)))) (subi (Host.divsi position (broadcastInDim S128 ![] bcast_S_S128 (id (constantI S_ 32 1#32)))) (broadcastInDim S128 ![] bcast_S_S128 (constantI S_ 32 1#32))) (Host.divsi position (broadcastInDim S128 ![] bcast_S_S128 (id (constantI S_ 32 1#32))))) (broadcastInDim S128 ![] bcast_S_S128 (select (cmpi .eq (id (constantI S_ 32 128#32)) (constantI S_ 32 0#32)) (constantI S_ 32 1#32) (id (constantI S_ 32 128#32)))) = position :=
  ext128 (by decide +kernel)

/-- All 128 neurons are in the area, so no position is filled, and none is negative. -/
theorem fill_position :
    select (cmpi .sge (iotaInDim S128 32 0) (broadcastInDim S128 ![0] bcast_S1_S128_0 (broadcastInDim S1 ![] bcast_S_S1 (Host.reduce IntOp.addi (extui 32 (fun _ => 1#1 : IVec S128 1) natLt_1_32) (constantI S_ 32 0#32) reducesTo_S128_S_d0 h_S_)))) (broadcastInDim S128 ![] bcast_S_S128 (id (constantI S_ 32 0#32))) (select (andi (cmpi .ne (cmpi .slt position (broadcastInDim S128 ![] bcast_S_S128 (constantI S_ 32 0#32))) (broadcastInDim S128 ![] bcast_S_S128 (cmpi .slt (select (cmpi .eq (id (constantI S_ 32 128#32)) (constantI S_ 32 0#32)) (constantI S_ 32 1#32) (id (constantI S_ 32 128#32))) (constantI S_ 32 0#32)))) (cmpi .ne position (broadcastInDim S128 ![] bcast_S_S128 (constantI S_ 32 0#32)))) (addi position (broadcastInDim S128 ![] bcast_S_S128 (select (cmpi .eq (id (constantI S_ 32 128#32)) (constantI S_ 32 0#32)) (constantI S_ 32 1#32) (id (constantI S_ 32 128#32))))) position) = position :=
  ext128 (by decide +kernel)

/-- No position is negative, so none is wrapped. -/
theorem wrap_position : broadcastInDim S128x1 ![0] bcast_S128_S128x1_0 (select (cmpi .slt position (broadcastInDim S128 ![] bcast_S_S128 (constantI S_ 32 0#32))) (addi position (broadcastInDim S128 ![] bcast_S_S128 (constantI S_ 32 128#32))) position) = position1 :=
  ext128x1 (by decide +kernel)

/-- Every position is in range. -/
theorem in_range :
    Host.reduce IntOp.andi
      (andi (cmpi .sge position1 (broadcastInDim S128x1 ![] bcast_S_S128x1 (constantI S_ 32 0#32)))
        (cmpi .sle position1 (broadcastInDim S128x1 ![0, 1] bcast_S1x1_S128x1_0_1 (broadcastInDim S1x1 ![1] bcast_S1_S1x1_1 (constantI S1 32 127#32)))))
      (constantI S_ 1 1#1) reducesTo_S128x1_S128_d1 h_S_ = fun _ => 1#1 :=
  ext128 (by decide +kernel)

variable {F : FTy → Type} [FloatOps F] {V0 : Valuation τ sig (Elt F)}

theorem v5_eq (h : RefRun.res_main_v4 V0 = fun _ => 1#1) : RefRun.res_main_v5 V0 = next := by
  unfold RefRun.res_main_v5
  rw [h]
  exact count_ones

theorem v15_eq (h : RefRun.res_main_v4 V0 = fun _ => 1#1) : RefRun.res_main_v15 V0 = position := by
  unfold RefRun.res_main_v15
  rw [v5_eq h, wrap_next, scatter_ones]
  exact count_steps

theorem call3_v4_eq (h : RefRun.res_main_v4 V0 = fun _ => 1#1) : RefRun.res_main_call3_v4 V0 = position := by
  unfold RefRun.res_main_call3_v4 RefRun.res_main_call2_v2 RefRun.res_main_call2_v0 RefRun.res_main_call3_v2 RefRun.res_main_call3_v0
  rw [v15_eq h]
  exact remainder_position

theorem v24_eq (h : RefRun.res_main_v4 V0 = fun _ => 1#1) : RefRun.res_main_v24 V0 = position := by
  unfold RefRun.res_main_v24
  rw [call3_v4_eq h, h]
  unfold RefRun.res_main_call3_v2 RefRun.res_main_call3_v0
  exact fill_position

/-- The start indices of the take are the positions. -/
theorem index_eq (h : RefRun.res_main_v4 V0 = fun _ => 1#1) : RefRun.res_main_call5_v5 V0 = position1 := by
  unfold RefRun.res_main_call5_v5
  rw [v24_eq h]
  exact wrap_position

end Cert.Proof.Nonzero

end
-- ==== Proof.RefValue.lean ====
/- The reference's result when every neuron is in the area: the affine map of its arguments. -/
module

public import proofs.«01_k».proof.Proof.Nonzero
public import proofs.«01_k».proof.Proof.Affine
public import Idealize.ShloMosaic.Lib.Routing.OpsSet

@[expose] public section

set_option maxRecDepth 16384

noncomputable section

namespace Cert.Proof.RefValue

open Cert.ReferenceIdeal Cert.ReferenceIdeal.Gen Idealize.ShloMosaic Idealize.ShloMosaic.TcCoe Idealize.SL.Sem Idealize.ShloMosaic.StableHlo

/-- A take along the last axis at the positions themselves changes nothing. -/
theorem gather_position {α : Type} (x : S64x4096x128.Idx → α) :
    Host.gather gather_S64x4096x128_S128x1_S64x4096x128_01_2_n_n_2_1_6440961 x Nonzero.position1 = x := by
  funext j
  unfold Host.gather
  congr 1
  funext a
  refine Fin.ext ?_
  show GatherDims.start _ j _ a + GatherDims.batchCoord _ j a + GatherDims.offCoord _ j a = _
  have h2 : ∀ k : Fin 128, min (BitVec.ofNat 32 k.val).toInt.toNat 127 = k.val := by decide +kernel
  match a with
  | ⟨0, _⟩ => exact (Nat.zero_add _)
  | ⟨1, _⟩ => exact (Nat.zero_add _)
  | ⟨2, _⟩ => exact h2 (j 2)

/-- A scatter with one window over the whole operand, at the origin, leaves the update. -/
theorem scatter_whole {α : Type} (x u : S64x4096x16.Idx → α) (ix : IVec S0 32) :
    Host.scatter scatter_S64x4096x16_S0_S64x4096x16_012_n_n_0 (fun _ b => b) x ix u = u := by
  have hs : ∀ k i : S64x4096x16.Idx, scatter_S64x4096x16_S0_S64x4096x16_012_n_n_0.resultIdx? k ix = some i ↔ k = i := by
    intro k i
    rw [Routing.resultIdx?_eq_some]
    have hw : ∀ a, ScatterDims.start scatter_S64x4096x16_S0_S64x4096x16_012_n_n_0 k ix a
        + (ScatterDims.window scatter_S64x4096x16_S0_S64x4096x16_012_n_n_0 k a : Int) = ((k a).val : Int) := by
      intro a
      match a with
      | ⟨0, _⟩ => exact Int.zero_add _
      | ⟨1, _⟩ => exact Int.zero_add _
      | ⟨2, _⟩ => exact Int.zero_add _
    constructor
    · intro h
      funext a
      exact Fin.ext (Int.ofNat_inj.1 ((hw a).symm.trans (h a)))
    · rintro rfl a
      exact hw a
  funext i
  exact Routing.scatter_set_hit _ _ _ _ i (u i) (fun k hk => by rw [(hs k i).1 hk]) i ((hs i i).2 rfl)

/-- The affine part, written with the host's contraction. -/
theorem dense_eq (x : FVec Ideal S64x4096x128 .f32) (W : FVec Ideal S128x16 .f32) (b : FVec Ideal S16 .f32) :
    addf (Host.dotGeneral dot_S64x4096x128_S128x16_S64x4096x16_2_0_01_1_n_n none x W)
      (broadcastInDim S64x4096x16 ![0, 1, 2] bcast_S1x1x16_S64x4096x16_0_1_2 (broadcastInDim S1x1x16 ![2] bcast_S16_S1x1x16_2 b))
      = affine x W b := by
  funext j
  unfold affine
  simp only [pointwise]
  rw [zero_add]
  rfl

/-- A mask of ones selects the first operand. -/
theorem select_ones {s : Shape} {α : Type} (a b : s.Idx → α) : select (fun _ => 1#1 : IVec s 1) a b = a := rfl

variable (m : (ℓ : Loc nD τ sig) → Buf (Elt Ideal) ℓ) (ρ : Dev nD → PrngReg)

/-- The reference's run, with its result at the affine map, when every neuron is in the area. -/
theorem run (h : ∀ c : Dev nD, RefRun.res_main_v4 (launchContents m c) = fun _ => 1#1) :
    θ_run defs (onTc (τ := τ) (main (F := Ideal))) ⟨m, fun _ => 0, ρ⟩ fun r => ∀ c : Dev nD,
      r.2.mem ((c.tc : Thread nD τ).loc main_v30)
        = affine (m ((c.tc : Thread nD τ).loc main_arg0)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ hr c => ⟨(hr c).1.trans (by
      rw [scatter_whole, Nonzero.index_eq (h c), Nonzero.in_range, gather_position]
      exact dense_eq _ _ _), (hr c).2⟩) (RefRun.run m ρ)

end Cert.Proof.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_area
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: the arguments as they were, every counter at zero. -/
theorem reference_frame {F : FTy → Type} [FloatOps F] (m : (ℓ : Loc ReferenceIdeal.nD ReferenceIdeal.τ ReferenceIdeal.sig) → Buf (Elt F) ℓ)
    (g : Dev ReferenceIdeal.nD → PrngReg) :
    θ_run (ReferenceIdeal.defs (F := F)) (onTc (τ := ReferenceIdeal.τ) (ReferenceIdeal.main (F := F))) ⟨m, fun _ => 0, g⟩ fun r =>
      (∀ c : Dev ReferenceIdeal.nD, r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5))
      ∧ r.2.sem = fun _ => 0 :=
  (θ_run (ReferenceIdeal.defs (F := F)) _ _).mono (fun r h => ⟨fun c => (h c).2, sem_eq_zero_of_no_sems rfl r.2⟩) (RefRun.run m g)

/-- Both programs end at the affine map of the arguments. -/
theorem values : Cert.algebraic_KernelIdeal_ReferenceIdeal_pre_in_area := fun m g m' g' hpre hargs =>
  ⟨fun c => affine (m ((c.tc : Thread KernelIdeal.nD KernelIdeal.τ).loc KernelIdeal.main_arg0))
      (m ((c.tc : Thread KernelIdeal.nD KernelIdeal.τ).loc KernelIdeal.main_arg4)) (m ((c.tc : Thread KernelIdeal.nD KernelIdeal.τ).loc KernelIdeal.main_arg5)),
    KernelValue.run m g,
    (θ_run (ReferenceIdeal.defs (F := Ideal)) _ _).mono (fun r h c => ⟨(h c).1.trans (by
        obtain ⟨h0, -, -, -, h4, h5⟩ := hargs c
        rw [h0, h4, h5]), (h c).2⟩)
      (RefValue.run m' g' fun c => by
        have hp := hpre c
        rw [← (hargs c).2.1] at hp
        exact hp)⟩

theorem claim : Cert.Claim := ⟨Cert.Kernel.Gen.facts, Cert.KernelIdeal.Gen.facts, Cert.ReferenceIdeal.Gen.facts, Cert.Pre_in_area.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, values⟩

end Cert.Proof

end
